-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_is_permutation [hPre_is_permutation : Cert.Pre_is_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_is_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_permutation [hPre_is_permutation : Cert.Pre_is_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_permutation [hKernelIdeal : Cert.KernelIdeal.Facts] [hPre_is_permutation : Cert.Pre_is_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_permutation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_permutation [hReferenceIdeal : Cert.ReferenceIdeal.Facts] [hPre_is_permutation : Cert.Pre_is_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_is_permutation [hKernelIdeal : Cert.KernelIdeal.Facts] [hReferenceIdeal : Cert.ReferenceIdeal.Facts] [hPre_is_permutation : Cert.Pre_is_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_permutation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_is_permutation : Cert.Pre_is_permutation.Facts),
    quiescent_Kernel (hKernel := hKernel)
    ∧ quiescent_KernelIdeal (hKernelIdeal := hKernelIdeal)
    ∧ quiescent_KernelIdeal_pre_is_permutation (hKernelIdeal := hKernelIdeal) (hPre_is_permutation := hPre_is_permutation)
    ∧ quiescent_ReferenceIdeal (hReferenceIdeal := hReferenceIdeal)
    ∧ quiescent_ReferenceIdeal_pre_is_permutation (hReferenceIdeal := hReferenceIdeal) (hPre_is_permutation := hPre_is_permutation)
    ∧ preserves_Kernel_KernelIdeal
    ∧ algebraic_KernelIdeal_ReferenceIdeal_pre_is_permutation (hKernelIdeal := hKernelIdeal) (hReferenceIdeal := hReferenceIdeal) (hPre_is_permutation := hPre_is_permutation)
-- ==== Pre_is_permutation.lean ====
abbrev S2x4096x1024 : Shape := ⟨3, ![2, 4096, 1024]⟩
abbrev S4096 : Shape := ⟨1, ![4096]⟩
abbrev S_ : Shape := ⟨0, ![]⟩

class Facts : Prop where
  reducesTo_S4096_S_d0 : S4096.ReducesTo [0] S_
  h_S_ : 0 < S_.numel

variable [Facts]

def comparator_i32_d0 : BitVec 32 → BitVec 32 → BitVec 1 :=
  fun l r =>
    let v1 := IntOp.cmpi .slt l r
    v1
def fn_sort {F : FTy → Type} [FloatOps F] (arg0 : IVec S4096 32) : IVec S4096 32 :=
  let v0 : IVec S4096 32 := (fun x => Host.sort S4096 0 comparator_i32_d0 x) arg0
  v0

def fn {F : FTy → Type} [FloatOps F] (main_arg0 : FVec F S2x4096x1024 .f32) (main_arg1 : IVec S4096 32) : IVec S_ 1 :=
  let main_v0 : IVec S4096 32 := fn_sort (F := F) main_arg1
  let main_v1 : IVec S4096 32 := iotaInDim S4096 32 0
  let main_v2 : IVec S4096 1 := cmpi .eq main_v0 main_v1
  let main_c : IVec S_ 1 := constantI S_ 1 1#1
  let main_v3 : IVec S_ 1 := (fun x v => Host.reduce IntOp.andi x v reducesTo_S4096_S_d0 h_S_) main_v2 main_c
  main_v3
-- ==== Kernel.lean ====
abbrev S2x4096x1024 : Shape := ⟨3, ![2, 4096, 1024]⟩
abbrev S4096 : Shape := ⟨1, ![4096]⟩
abbrev S8192x1024 : Shape := ⟨2, ![8192, 1024]⟩
abbrev S2048x1024 : Shape := ⟨2, ![2048, 1024]⟩

abbrev nBuf : Space → Nat
  | .hbm => 5
  | .vmem => 4
  | .smem => 0
  | _ => 0

abbrev bufTy : (tb : Table) → Fin (tcTables nBuf tb) → BufTy
  | .hbm, ⟨0, _⟩ => ⟨S2x4096x1024, .f32⟩
  | .hbm, ⟨1, _⟩ => ⟨S4096, .i32⟩
  | .hbm, ⟨2, _⟩ => ⟨S8192x1024, .f32⟩
  | .hbm, ⟨3, _⟩ => ⟨S8192x1024, .f32⟩
  | .hbm, ⟨4, _⟩ => ⟨S2x4096x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2x4096x1024 : Shape := ⟨3, ![2, 4096, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S2x4096x1024, .f32⟩
  | .hbm, ⟨21, _⟩ => ⟨S2x4096x1024, .i1⟩
  | .hbm, ⟨22, _⟩ => ⟨S_, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x4096x1024, .f32⟩
  | .hbm, ⟨27, _⟩ => ⟨S2x4096x1024, .f32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S1, .i32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S1x1, .i32⟩
  | .hbm, ⟨44, _⟩ => ⟨S4096x1, .i32⟩
  | .hbm, ⟨45, _⟩ => ⟨S4096x1, .i1⟩
  | .hbm, ⟨46, _⟩ => ⟨S4096x1, .i1⟩
  | .hbm, ⟨47, _⟩ => ⟨S_, .i1⟩
  | .hbm, ⟨48, _⟩ => ⟨S4096, .i1⟩
  | .hbm, ⟨49, _⟩ => ⟨S2x4096x1024, .f32⟩
  | .hbm, ⟨50, _⟩ => ⟨S2x4096x1024, .i1⟩
  | .hbm, ⟨51, _⟩ => ⟨S_, .f32⟩
  | .hbm, ⟨52, _⟩ => ⟨S2x4096x1024, .f32⟩
  | .hbm, ⟨53, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_call1_v0 : Ref sig .tc := ⟨.hbm, 28, rfl⟩
abbrev main_call1_v1_0 : Ref sig .tc := ⟨.hbm, 29, rfl⟩
abbrev main_v3 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_call2_cst : Ref sig .tc := ⟨.hbm, 51, rfl⟩
abbrev main_call2_v15 : Ref sig .tc := ⟨.hbm, 52, rfl⟩
abbrev main_v4 : Ref sig .tc := ⟨.hbm, 53, rfl⟩

abbrev nD : Nat := 1
abbrev τ : Topo := Topo.v7x

variable {F : FTy → Type} [FloatOps F]
-- ==== Proof.KernelValue.lean ====
/-
  What the kernel leaves in its result buffer.

  The host flattens `x : f32[2, 4096, 1024]` to 8192 rows, the pipeline doubles those rows in four blocks of
  2048 rows, and the host gives the doubled rows the shape of `x` again.  So the result is `x` with every
  element multiplied by the constant 2.
-/
module

public import proofs.«01_k».proof.Proof.Gen.KernelIdeal.Frame
public import Idealize.ShloMosaic.Lib.Pipeline.Value
public import Idealize.ShloMosaic.Lib.Pipeline.ValueKit.Geometry

@[expose] public section

noncomputable section

namespace Cert.KernelIdeal.Doubled

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The constant the kernel multiplies by: the float 2. -/
abbrev two : F .f32 := Scalar.ofBits .f32 0x40000000#32

/-- A whole array of any shape, each element times 2. -/
abbrev double {s : Shape} (x : FVec F s .f32) : FVec F s .f32 := mulf x (broadcast s two)

/-- The block offset `![0, 0]` is the zero offset. -/
theorem zero_offset : (![0, 0] : Fin 2 → Nat) = fun _ => 0 := funext fun a => by fin_cases a <;> rfl

/-- One run of the kernel body leaves the double of its input block. -/
theorem block_eq (x : FVec F S2048x1024 .f32) : out0_1 x = double x := by
  unfold out0_1
  rw [View.canon_unit_zero zero_offset, View.ld_unit_zero zero_offset]
  show mulf (shapeCast S2048x1024 x _) _ = _
  rw [shapeCast_self]

/-- What point `t` writes back is block `t` of the doubled flat array: input and output blocks lie on the same rows. -/
theorem flushed_eq (c : Dev nD) (t : Fin cfg0.N) :
    (dats m 0 c).flushed 1 t = (win0_1.blk t).view.read (Elt F) (double (s := S8192x1024) (V m c main_v0)) := by
  show (cfg0.win 1).cut (grid0.coords t) ((dats m 0 c).after 1 t) = _
  rw [after0_1, block_eq]
  rfl

/-- The four blocks cover the flat result array. -/
theorem covers : (cfg0.win 1).Covers := by decide +kernel

/-- After the pipeline the flat result array is the double of the flat input array. -/
theorem flat_eq (c : Dev nD) : (dats m 0 c).arrAt 1 cfg0.N = double (s := S8192x1024) (V m c main_v0) :=
  (dats m 0 c).arrAt_eq_of_cover 1 _ (fun t _ => flushed_eq m c t) (covers.cover _ (Memref.isWhole_whole _))

/-- The flat input array is the argument, reshaped. -/
theorem flat_input (c : Dev nD) :
    V m c main_v0 = shapeCast S8192x1024 (m ((c : Thread nD τ).loc main_arg0)) shapeCasts_S2x4096x1024_S8192x1024 := by
  show StableHlo.after _ _ _ = _
  simp only [hostOps0, List.flatten_cons, List.flatten_nil, List.append_nil, StableHlo.after_cons, StableHlo.after_nil]
  rw [StableHlo.reshape_result]
  rfl

/-- Doubling commutes with flattening and shaping back. -/
theorem double_reshape (x : FVec F S2x4096x1024 .f32) :
    shapeCast S2x4096x1024 (double (shapeCast S8192x1024 x shapeCasts_S2x4096x1024_S8192x1024)) shapeCasts_S8192x1024_S2x4096x1024
      = double x := by
  show mulf (shapeCast S2x4096x1024 (shapeCast S8192x1024 x _) _) (broadcast S2x4096x1024 two) = _
  rw [shapeCast_shapeCast]

/-- The result buffer ends as the argument doubled. -/
theorem result_eq (c : Dev nD) :
    Pipeline.afterTail₀ cfgs (dats m) 0 (V0 m) [hostOps1] c main_v2 = double (m ((c : Thread nD τ).loc main_arg0)) := by
  unfold Pipeline.afterTail₀
  simp only [hostOps1, List.flatten_cons, List.flatten_nil, List.append_nil, StableHlo.after_cons, StableHlo.after_nil]
  rw [StableHlo.reshape_result]
  have h := Pipeline.withArrays_arr (cfgs 0).spec (by decide) c (V0 m c) (fun w => (dats m 0 c).arrAt w (cfgs 0).N) 1
  have e : Pipeline.withArrays (cfgs 0).spec c (V0 m c) (fun w => (dats m 0 c).arrAt w (cfgs 0).N) (Proc.devRef .tc main_v1)
      = double (s := S8192x1024) (V m c main_v0) := h.trans (flat_eq m c)
  rw [e, flat_input]
  exact double_reshape _

/-- Every run of the kernel ends with the result at the doubled argument and both arguments unchanged. -/
theorem run : θ_run defs (onTc (τ := τ) (main (F := F))) ⟨m, fun _ => 0, ρ⟩ fun r => ∀ c : Dev nD,
      r.2.mem ((c : Thread nD τ).loc main_v2) = double (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Doubled

end
-- ==== Proof.Permutation.lean ====
/-
  What "`p` is a permutation of 0, …, 4095" says, and what an argsort of such a `p` holds.

  The precondition sorts the table `p` and asks for 0, 1, …, 4095.  A sort reads its table through a permutation of
  the positions, here `order p`; so the precondition says that the word of `p` at position `order p k` is `k`.
  The argsort of `p` is the same permutation written as words: it holds `order p k` at `k`.
-/
module

public import proofs.«01_k».proof.Proof.Gen.Pre_is_permutation
public import proofs.«01_k».proof.Proof.Gen.ReferenceIdeal
public import Idealize.ShloMosaic.Lib.SortFacts
public import Idealize.ShloMosaic.Lib.ReduceAll
public import Idealize.ShloMosaic.Lib.StableHlo.Predicate

@[expose] public section

noncomputable section

namespace Cert.Permutation

open Idealize.ShloMosaic Idealize.ShloMosaic.Shape

/-- A table of 4096 32-bit words. -/
abbrev Table : Type := IVec (⟨1, ![4096]⟩ : Shape) 32

/-- The position at which the stable sort of `p` finds its `k`-th word. -/
def order (p : Table) : Fin 4096 → Fin 4096 :=
  sortedFrom fun k k' => IntOp.cmpi .slt (p (Idx.ofFin k)) (p (Idx.ofFin k')) == 1#1

/-- Every position is some word's. -/
theorem order_surjective (p : Table) : Function.Surjective (order p) := sortedFrom_surjective _

/-- `p` is a permutation: read in sorted order it is 0, 1, …, 4095. -/
def IsPermutation (p : Table) : Prop := ∀ k : Fin 4096, p (Idx.ofFin (order p k)) = BitVec.ofNat 32 k.val

/-- The precondition, where it evaluates to true, says that the table is a permutation. -/
theorem of_precondition {F : FTy → Type} [FloatOps F] (x : FVec F Cert.Pre_is_permutation.S2x4096x1024 .f32) (p : Table)
    (h : Cert.Pre_is_permutation.fn (F := F) x p = fun _ => 1#1) : IsPermutation p := by
  intro k
  have hall : Host.reduce IntOp.andi
      (cmpi .eq (Host.sort ⟨1, ![4096]⟩ 0 Cert.Pre_is_permutation.comparator_i32_d0 p) (iotaInDim ⟨1, ![4096]⟩ 32 0))
      (constantI Cert.Pre_is_permutation.S_ 1 1#1) Cert.Pre_is_permutation.Gen.reducesTo_S4096_S_d0
      Cert.Pre_is_permutation.Gen.h_S_ (fun a => a.elim0) = 1#1 := congrFun h _
  haveI : Subsingleton Cert.Pre_is_permutation.S_.Idx := ⟨fun a b => funext fun i => i.elim0⟩
  have hk := StableHlo.Predicate.cmpi_eq_iff.1 (Host.reduce_andi_all _ _ _ _ _ hall (Idx.ofFin k))
  rw [Host.sort_rank1] at hk
  exact hk

/-- Every word of a permutation is a number below 4096. -/
theorem IsPermutation.word {p : Table} (h : IsPermutation p) (i : Fin 4096) :
    ∃ k : Fin 4096, p (Idx.ofFin i) = BitVec.ofNat 32 k.val := by
  obtain ⟨k, rfl⟩ := order_surjective p i
  exact ⟨k, h k⟩

/-- The reference's argsort of `p`: the positions 0, …, 4095 carried along by the sort of `p`. -/
abbrev argsort (p : Table) : Table :=
  (Host.sort2 ⟨1, ![4096]⟩ 0 Cert.ReferenceIdeal.comparator_i32_i32_d0 p (iotaInDim ⟨1, ![4096]⟩ 32 0)).2

/-- The argsort holds, at `k`, the position of the `k`-th word. -/
theorem argsort_apply (p : Table) (k : Fin 4096) : argsort p (Idx.ofFin k) = BitVec.ofNat 32 (order p k).val := by
  unfold argsort Host.sort2 Cert.ReferenceIdeal.comparator_i32_i32_d0
  simp [iotaInDim, order]

end Cert.Permutation

end
-- ==== Proof.Take.lean ====
/-
  The reference's `take` along the middle axis, read at one index.

  `take x i` first adds 4096 to the negative words of `i`, then gathers: entry `(b, j, c)` of the result is entry
  `(b, i j, c)` of `x` where the word `i j` is in range, and a fill value where it is not.  Where every word of `i` is
  a number below 4096 no word is negative and none is out of range, so the result is the plain read.
-/
module

public import proofs.«01_k».proof.Proof.Gen.ReferenceIdeal
public import Idealize.ShloMosaic.Lib.ValueIdx
public import Idealize.ShloMosaic.Lib.SortFacts
public import Idealize.ShloMosaic.Lib.ReduceAll
public import Idealize.ShloMosaic.Lib.Pipeline.Value
public import Idealize.ShloMosaic.Lib.StableHlo.Predicate

@[expose] public section

noncomputable section

namespace Cert.ReferenceIdeal.Take

open Cert.ReferenceIdeal Cert.ReferenceIdeal.Gen Idealize.ShloMosaic Idealize.ShloMosaic.Shape Idealize.ShloMosaic.ValueIdx
open Idealize.ShloMosaic.StableHlo.Predicate (toInt_ofNat_small slt_ofNat_iff sle_ofNat_iff)

variable {F : FTy → Type} [FloatOps F]

/-- The words of `i`, 4096 added to each negative one. -/
def wrap (i : IVec S4096 32) : IVec S4096 32 :=
  select (cmpi .slt i (broadcastInDim S4096 ![] bcast_S_S4096 (constantI S_ 32 0#32)))
    (addi i (broadcastInDim S4096 ![] bcast_S_S4096 (constantI S_ 32 4096#32))) i

/-- The wrapped words as a column. -/
def column (i : IVec S4096 32) : IVec S4096x1 32 := broadcastInDim S4096x1 ![0] bcast_S4096_S4096x1_0 (wrap i)

/-- Per position, whether the wrapped word is in range: at least 0 and at most 4095. -/
def inRange (i : IVec S4096 32) : IVec S4096 1 :=
  Host.reduce IntOp.andi
    (andi (cmpi .sge (column i) (broadcastInDim S4096x1 ![] bcast_S_S4096x1 (constantI S_ 32 0#32)))
      (cmpi .sle (column i)
        (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- The reference's `take` of `x` at the words `i` along the middle axis. -/
def take (x : FVec F S2x4096x1024 .f32) (i : IVec S4096 32) : FVec F S2x4096x1024 .f32 :=
  select (broadcastInDim S2x4096x1024 ![1] bcast_S4096_S2x4096x1024_1 (inRange i))
    (Host.gather gather_S2x4096x1024_S4096x1_S2x4096x1024_02_1_n_n_1_1_211024 x (column i))
    (broadcastInDim S2x4096x1024 ![] bcast_S_S2x4096x1024 (constant S_ .f32 0x7FC00000#32))

/-- A number below 4096 is not negative, so its word is not wrapped. -/
theorem wrap_apply (i : IVec S4096 32) (j : Fin 4096) (k : Fin 4096) (h : i (Idx.ofFin j) = BitVec.ofNat 32 k.val) :
    wrap i (Idx.ofFin j) = BitVec.ofNat 32 k.val := by
  show Scalar.select (IntOp.cmpi .slt (i (Idx.ofFin j)) 0#32) (IntOp.addi (i (Idx.ofFin j)) 4096#32) (i (Idx.ofFin j)) = _
  have hk := k.isLt
  have hn : ¬ IntOp.cmpi .slt (BitVec.ofNat 32 k.val) (BitVec.ofNat 32 0) = 1#1 := by
    intro e
    have := (slt_ofNat_iff k.val 0 (by omega) (by omega)).1 e
    omega
  rw [h]
  exact if_neg hn

/-- The column at row `j` is the word at `j`. -/
theorem column_apply (i : IVec S4096 32) (j : Fin 4096) (z : Fin 1) (k : Fin 4096) (h : i (Idx.ofFin j) = BitVec.ofNat 32 k.val) :
    column i (ix2 j z) = BitVec.ofNat 32 k.val := by
  unfold column
  rw [broadcastInDim_apply ![0] bcast_S4096_S4096x1_0 (wrap i) (ix2 j z) (Idx.ofFin j) fun a => by
    have : a = 0 := Subsingleton.elim _ _
    subst this
    rfl]
  exact wrap_apply i j k h

/-- Where every word is a number below 4096, every position is in range. -/
theorem inRange_apply (i : IVec S4096 32) (h : ∀ j : Fin 4096, ∃ k : Fin 4096, i (Idx.ofFin j) = BitVec.ofNat 32 k.val)
    (j : S4096.Idx) : inRange i j = 1#1 := by
  unfold inRange
  refine Host.reduce_andi_one _ _ _ _ _ rfl fun y => ?_
  obtain ⟨k, hk⟩ := h (y 0)
  have hk' := k.isLt
  have hy : column i y = BitVec.ofNat 32 k.val := by
    rw [eq_ix2 y]
    exact column_apply i (y 0) (y 1) k hk
  show IntOp.andi (IntOp.cmpi .sge (column i y) (BitVec.ofNat 32 0)) (IntOp.cmpi .sle (column i y) (BitVec.ofNat 32 4095)) = 1#1
  rw [hy]
  exact IntOp.andi_eq_one.2 ⟨(sle_ofNat_iff 0 k.val (by omega) (by omega)).2 (by omega),
    (sle_ofNat_iff k.val 4095 (by omega) (by omega)).2 (by omega)⟩

/-- The gather along the middle axis: where the start word of row `j` is a number `k` below 4096, entry `(b, j, c)` of
    the result is entry `(b, k, c)` of the operand. -/
theorem gather_apply {α : Type} (x : S2x4096x1024.Idx → α) (idx : IVec S4096x1 32) (b : Fin 2) (j : Fin 4096) (c : Fin 1024)
    (k : Fin 4096) (h : idx (ix2 j (0 : Fin 1)) = BitVec.ofNat 32 k.val) :
    Host.gather gather_S2x4096x1024_S4096x1_S2x4096x1024_02_1_n_n_1_1_211024 x idx (ix3 b j c) = x (ix3 b k c) := by
  unfold Host.gather
  refine congrArg x (funext fun a => Fin.ext ?_)
  set d := gather_S2x4096x1024_S4096x1_S2x4096x1024_02_1_n_n_1_1_211024 with hd
  show d.start (ix3 b j c) idx a + d.batchCoord (ix3 b j c) a + d.offCoord (ix3 b j c) a = _
  rw [d.batchCoord_eq_zero _ a List.not_mem_nil, Nat.add_zero]
  match a with
  | ⟨0, _⟩ =>
    have h0 : (0 : Fin 3) ∉ d.startIndexMap := by decide
    show d.start (ix3 b j c) idx 0 + d.offCoord (ix3 b j c) 0 = b.val
    rw [show d.start (ix3 b j c) idx 0 = 0 from dif_neg h0, Nat.zero_add]
    rfl
  | ⟨1, _⟩ =>
    have h1 : (1 : Fin 3) ∈ d.startIndexMap := by decide
    have hs : d.siIdx (ix3 b j c) ⟨d.startIndexMap.idxOf (1 : Fin 3), List.idxOf_lt_length_iff.2 h1⟩ = ix2 j (0 : Fin 1) := by
      funext e
      match e with
      | ⟨0, _⟩ => rfl
      | ⟨1, _⟩ => rfl
    have hk := k.isLt
    show d.start (ix3 b j c) idx 1 + d.offCoord (ix3 b j c) 1 = k.val
    rw [d.offCoord_eq_zero _ (1 : Fin 3) (fun hm => ((d.mem_sKept _).1 hm).1 (by decide)), Nat.add_zero]
    rw [show d.start (ix3 b j c) idx 1 = _ from dif_pos h1, hs, h, toInt_ofNat_small _ (by omega)]
    show min ((k.val : Int)).toNat (4096 - 1) = k.val
    omega
  | ⟨2, _⟩ =>
    have h2 : (2 : Fin 3) ∉ d.startIndexMap := by decide
    show d.start (ix3 b j c) idx 2 + d.offCoord (ix3 b j c) 2 = c.val
    rw [show d.start (ix3 b j c) idx 2 = 0 from dif_neg h2, Nat.zero_add]
    rfl

/-- `take`, where every word is a number below 4096: entry `(b, j, c)` is `x` at `(b, k, c)`, `k` the word at `j`. -/
theorem take_apply (x : FVec F S2x4096x1024 .f32) (i : IVec S4096 32)
    (h : ∀ j : Fin 4096, ∃ k : Fin 4096, i (Idx.ofFin j) = BitVec.ofNat 32 k.val)
    (b : Fin 2) (j : Fin 4096) (c : Fin 1024) (k : Fin 4096) (hk : i (Idx.ofFin j) = BitVec.ofNat 32 k.val) :
    take x i (ix3 b j c) = x (ix3 b k c) := by
  unfold take
  rw [select_apply]
  rw [show broadcastInDim S2x4096x1024 ![1] bcast_S4096_S2x4096x1024_1 (inRange i) (ix3 b j c) = 1#1 from inRange_apply i h _]
  rw [select_one]
  exact gather_apply x (column i) b j c k (column_apply i j 0 k hk)

end Cert.ReferenceIdeal.Take

end
-- ==== Proof.ReferenceValue.lean ====
/-
  What the reference computes, where `p` is a permutation.

  The reference takes the rows of `x` at `p`, doubles them, and takes the doubled rows at the argsort of `p`.  Row `j`
  of the result is the doubled row `p (order p j)` of `x`, and that row is row `j`: the argsort undoes `p`.  So the
  result is `x` with every element times 2.
-/
module

public import proofs.«01_k».proof.Proof.Permutation
public import proofs.«01_k».proof.Proof.Take
public import proofs.«01_k».proof.Proof.Gen.ReferenceIdeal.Run

@[expose] public section

noncomputable section

namespace Cert.ReferenceIdeal.Doubled

open Cert.ReferenceIdeal Cert.ReferenceIdeal.Gen Cert.ReferenceIdeal.Take Cert.Permutation
open Idealize.ShloMosaic Idealize.ShloMosaic.TcCoe Idealize.ShloMosaic.Shape Idealize.ShloMosaic.ValueIdx Idealize.SL.Sem

variable {F : FTy → Type} [FloatOps F]

/-- The whole array, each element times the constant 2. -/
def double (x : FVec F S2x4096x1024 .f32) : FVec F S2x4096x1024 .f32 :=
  mulf x (broadcastInDim S2x4096x1024 ![] bcast_S_S2x4096x1024 (constant S_ .f32 0x40000000#32))

/-- An element of the doubled array depends on the array at the same index alone. -/
theorem double_congr (x x' : FVec F S2x4096x1024 .f32) (y y' : S2x4096x1024.Idx) (h : x y = x' y') :
    double x y = double x' y' :=
  congrArg (fun v => FloatOps.mulf v (FloatOps.ofBits .f32 0x40000000#32)) h

/-- The reference's result: take at `p`, double, take at the argsort of `p`. -/
def result (x : FVec F S2x4096x1024 .f32) (p : IVec S4096 32) : FVec F S2x4096x1024 .f32 :=
  take (double (take x p)) (argsort p)

/-- Where `p` is a permutation the two takes undo each other, and the reference's result is the double of `x`. -/
theorem result_eq (x : FVec F S2x4096x1024 .f32) (p : IVec S4096 32) (h : IsPermutation p) : result x p = double x := by
  have at_index : ∀ (b : Fin 2) (j : Fin 4096) (c : Fin 1024), result x p (ix3 b j c) = double x (ix3 b j c) := fun b j c => by
    unfold result
    rw [take_apply _ (argsort p) (fun k => ⟨order p k, argsort_apply p k⟩) b j c (order p j) (argsort_apply p j)]
    exact double_congr _ _ _ _ (take_apply x p h.word b (order p j) c j (h j))
  funext y
  rw [eq_ix3 y]
  exact at_index (y 0) (y 1) (y 2)

/-- Every run of the reference ends with its result at `result` of the arguments and both arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v4) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  Cert.ReferenceIdeal.Value.run m ρ

end Cert.ReferenceIdeal.Doubled

end
-- ==== Proof.lean ====
/-
  The proof of `Cert.Claim`: every program terminates with its arguments unchanged and no semaphore raised, the
  idealized kernel is the kernel's own text, and, where the table is a permutation, kernel and reference end with
  equal results over the extended reals.

  The mathematics is in four modules: `KernelValue` (the kernel doubles its argument), `Permutation` (what the
  precondition says and what the argsort holds), `Take` (a `take` at one index) and `ReferenceValue` (the reference's
  two takes undo each other).  This file assembles them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_is_permutation
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the reference terminates with its arguments unchanged and, having no semaphore, none left raised. -/
theorem reference_quiescent : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Doubled.run (F := Ideal) m ρ)

/-- Where the table is a permutation, kernel and reference end with the same result: the argument, every element
    times 2. -/
theorem values_equal : Cert.algebraic_KernelIdeal_ReferenceIdeal_pre_is_permutation := by
  intro m ρ m' ρ' hpre hagree
  refine ⟨fun c => Cert.KernelIdeal.Doubled.double (F := Ideal) (s := Cert.KernelIdeal.S2x4096x1024)
      (m ((c.tc : Thread Cert.KernelIdeal.nD Cert.KernelIdeal.τ).loc Cert.KernelIdeal.main_arg0)),
    Cert.KernelIdeal.Doubled.run m ρ, ?_⟩
  refine (θ_run Cert.ReferenceIdeal.defs _ _).mono (fun r h c => ⟨(h c).1.trans ?_, (h c).2⟩)
    (Cert.ReferenceIdeal.Doubled.run (F := Ideal) m' ρ')
  rw [(hagree c).1, (hagree c).2,
    Cert.ReferenceIdeal.Doubled.result_eq _ _ (Cert.Permutation.of_precondition _ _ (hpre c))]
  rfl

/-- All claims: the frames of the three programs, the idealization, and the equality of the results. -/
theorem claim : Cert.Claim :=
  ⟨Cert.Kernel.Gen.facts, Cert.KernelIdeal.Gen.facts, Cert.ReferenceIdeal.Gen.facts, Cert.Pre_is_permutation.Gen.facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    trivial,
    values_equal⟩

end Cert.Proof

end
